-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x16x1024x3 : Shape := ⟨4, ![4, 16, 1024, 3]⟩
abbrev S4x16 : Shape := ⟨2, ![4, 16]⟩
abbrev S_ : Shape := ⟨0, ![]⟩
abbrev S64x1024x3 : Shape := ⟨3, ![64, 1024, 3]⟩
abbrev S64x3x1024 : Shape := ⟨3, ![64, 3, 1024]⟩
abbrev S64x1x1 : Shape := ⟨3, ![64, 1, 1]⟩
abbrev S1x1 : Shape := ⟨2, ![1, 1]⟩
abbrev S8x3x1024 : Shape := ⟨3, ![8, 3, 1024]⟩
abbrev S8x1024x3 : Shape := ⟨3, ![8, 1024, 3]⟩
abbrev S8x1x1 : Shape := ⟨3, ![8, 1, 1]⟩
abbrev S1024x1024 : Shape := ⟨2, ![1024, 1024]⟩
abbrev S1x3x1024 : Shape := ⟨3, ![1, 3, 1024]⟩
abbrev S3x1024 : Shape := ⟨2, ![3, 1024]⟩
abbrev S1x1024x3 : Shape := ⟨3, ![1, 1024, 3]⟩
abbrev S1024x3 : Shape := ⟨2, ![1024, 3]⟩
abbrev S1x1x1 : Shape := ⟨3, ![1, 1, 1]⟩
abbrev S1x1024 : Shape := ⟨2, ![1, 1024]⟩
abbrev S1024x1 : Shape := ⟨2, ![1024, 1]⟩
abbrev S1024 : Shape := ⟨1, ![1024]⟩
abbrev S1 : Shape := ⟨1, ![1]⟩
abbrev S3 : Shape := ⟨1, ![3]⟩
abbrev S3x1 : Shape := ⟨2, ![3, 1]⟩
abbrev S1x3x1 : Shape := ⟨3, ![1, 3, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x16x1024x3, .f32⟩
  | .hbm, ⟨1, _⟩ => ⟨S4x16x1024x3, .f32⟩
  | .hbm, ⟨2, _⟩ => ⟨S4x16, .f32⟩
  | .hbm, ⟨3, _⟩ => ⟨S_, .i32⟩
  | .hbm, ⟨4, _⟩ => ⟨S64x1024x3, .f32⟩
  | .hbm, ⟨5, _⟩ => ⟨S64x3x1024, .f32⟩
  | .hbm, ⟨6, _⟩ => ⟨S64x1024x3, .f32⟩
  | .hbm, ⟨7, _⟩ => ⟨S64x3x1024, .f32⟩
  | .hbm, ⟨8, _⟩ => ⟨S64x1x1, .f32⟩
  | .hbm, ⟨9, _⟩ => ⟨S1x1, .f32⟩
  | .hbm, ⟨10, _⟩ => ⟨S1x1, .f32⟩
  | .local _ .vmem, ⟨0, _⟩ => ⟨S8x3x1024, .f32⟩
  | .local _ .vmem, ⟨1, _⟩ => ⟨S8x3x1024, .f32⟩
  | .local _ .vmem, ⟨2, _⟩ => ⟨S8x1024x3, .f32⟩
  | .local _ .vmem, ⟨3, _⟩ => ⟨S8x1024x3, .f32⟩
  | .local _ .vmem, ⟨4, _⟩ => ⟨S8x1024x3, .f32⟩
  | .local _ .vmem, ⟨5, _⟩ => ⟨S8x1024x3, .f32⟩
  | .local _ .vmem, ⟨6, _⟩ => ⟨S8x3x1024, .f32⟩
  | .local _ .vmem, ⟨7, _⟩ => ⟨S8x3x1024, .f32⟩
  | .local _ .vmem, ⟨8, _⟩ => ⟨S8x1x1, .f32⟩
  | .local _ .vmem, ⟨9, _⟩ => ⟨S8x1x1, .f32⟩
  | .local _ .vmem, ⟨10, _⟩ => ⟨S1x1, .f32⟩
  | .local _ .vmem, ⟨11, _⟩ => ⟨S1x1, .f32⟩
  | _, _ => ⟨S4x16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x16x1024x3 : Shape := ⟨4, ![4, 16, 1024, 3]⟩
abbrev S4x16 : Shape := ⟨2, ![4, 16]⟩
abbrev S_ : Shape := ⟨0, ![]⟩
abbrev S64x1024x3 : Shape := ⟨3, ![64, 1024, 3]⟩
abbrev S64x1024x1x3 : Shape := ⟨4, ![64, 1024, 1, 3]⟩
abbrev S64x1x1024x3 : Shape := ⟨4, ![64, 1, 1024, 3]⟩
abbrev S64x1024x1024x3 : Shape := ⟨4, ![64, 1024, 1024, 3]⟩
abbrev S64x1024x1024 : Shape := ⟨3, ![64, 1024, 1024]⟩
abbrev S64x1024 : Shape := ⟨2, ![64, 1024]⟩
abbrev S64x1024x1 : Shape := ⟨3, ![64, 1024, 1]⟩
abbrev S64 : Shape := ⟨1, ![64]⟩
abbrev S4x16x3 : Shape := ⟨3, ![4, 16, 3]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S4x16x1024x3, .f32⟩
  | .hbm, ⟨1, _⟩ => ⟨S4x16x1024x3, .f32⟩
  | .hbm, ⟨2, _⟩ => ⟨S4x16, .f32⟩
  | .hbm, ⟨3, _⟩ => ⟨S_, .i32⟩
  | .hbm, ⟨4, _⟩ => ⟨S64x1024x3, .f32⟩
  | .hbm, ⟨5, _⟩ => ⟨S64x1024x3, .f32⟩
  | .hbm, ⟨6, _⟩ => ⟨S64x1024x1x3, .f32⟩
  | .hbm, ⟨7, _⟩ => ⟨S64x1x1024x3, .f32⟩
  | .hbm, ⟨8, _⟩ => ⟨S64x1024x1024x3, .f32⟩
  | .hbm, ⟨9, _⟩ => ⟨S64x1024x1024x3, .f32⟩
  | .hbm, ⟨10, _⟩ => ⟨S64x1024x1024x3, .f32⟩
  | .hbm, ⟨11, _⟩ => ⟨S64x1024x1024x3, .f32⟩
  | .hbm, ⟨12, _⟩ => ⟨S_, .f32⟩
  | .hbm, ⟨13, _⟩ => ⟨S64x1024x1024, .f32⟩
  | .hbm, ⟨14, _⟩ => ⟨S64x1024x1024, .i32⟩
  | .hbm, ⟨15, _⟩ => ⟨S_, .f32⟩
  | .hbm, ⟨16, _⟩ => ⟨S_, .i32⟩
  | .hbm, ⟨17, _⟩ => ⟨S64x1024, .f32⟩
  | .hbm, ⟨18, _⟩ => ⟨S64x1024, .i32⟩
  | .hbm, ⟨19, _⟩ => ⟨S64x1024x1024, .i32⟩
  | .hbm, ⟨20, _⟩ => ⟨S_, .f32⟩
  | .hbm, ⟨21, _⟩ => ⟨S_, .i32⟩
  | .hbm, ⟨22, _⟩ => ⟨S64x1024, .f32⟩
  | .hbm, ⟨23, _⟩ => ⟨S64x1024, .i32⟩
  | .hbm, ⟨24, _⟩ => ⟨S_, .i32⟩
  | .hbm, ⟨25, _⟩ => ⟨S64x1024, .i32⟩
  | .hbm, ⟨26, _⟩ => ⟨S64x1024, .i1⟩
  | .hbm, ⟨27, _⟩ => ⟨S_, .i32⟩
  | .hbm, ⟨28, _⟩ => ⟨S64x1024, .i32⟩
  | .hbm, ⟨29, _⟩ => ⟨S64x1024, .i32⟩
  | .hbm, ⟨30, _⟩ => ⟨S64x1024, .i32⟩
  | .hbm, ⟨31, _⟩ => ⟨S64x1024x1, .i32⟩
  | .hbm, ⟨32, _⟩ => ⟨S64x1024x3, .f32⟩
  | .hbm, ⟨33, _⟩ => ⟨S_, .i32⟩
  | .hbm, ⟨34, _⟩ => ⟨S64x1024, .i32⟩
  | .hbm, ⟨35, _⟩ => ⟨S64x1024, .i1⟩
  | .hbm, ⟨36, _⟩ => ⟨S_, .i32⟩
  | .hbm, ⟨37, _⟩ => ⟨S64x1024, .i32⟩
  | .hbm, ⟨38, _⟩ => ⟨S64x1024, .i32⟩
  | .hbm, ⟨39, _⟩ => ⟨S64x1024, .i32⟩
  | .hbm, ⟨40, _⟩ => ⟨S64x1024x1, .i32⟩
  | .hbm, ⟨41, _⟩ => ⟨S64x1024x3, .f32⟩
  | .hbm, ⟨42, _⟩ => ⟨S64x1024x3, .f32⟩
  | .hbm, ⟨43, _⟩ => ⟨S64x1024x3, .f32⟩
  | .hbm, ⟨44, _⟩ => ⟨S_, .f32⟩
  | .hbm, ⟨45, _⟩ => ⟨S64x1024x3, .f32⟩
  | .hbm, ⟨46, _⟩ => ⟨S64x1024x3, .i1⟩
  | .hbm, ⟨47, _⟩ => ⟨S_, .f32⟩
  | .hbm, ⟨48, _⟩ => ⟨S64x1024x3, .f32⟩
  | .hbm, ⟨49, _⟩ => ⟨S64x1024x3, .f32⟩
  | .hbm, ⟨50, _⟩ => ⟨S64x1024x3, .f32⟩
  | .hbm, ⟨51, _⟩ => ⟨S_, .f32⟩
  | .hbm, ⟨52, _⟩ => ⟨S64x1024x3, .f32⟩
  | .hbm, ⟨53, _⟩ => ⟨S64x1024x3, .f32⟩
  | .hbm, ⟨54, _⟩ => ⟨S64x1024x3, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64x1024x3, .f32⟩
  | .hbm, ⟨61, _⟩ => ⟨S64x1024x3, .f32⟩
  | .hbm, ⟨62, _⟩ => ⟨S_, .f32⟩
  | .hbm, ⟨63, _⟩ => ⟨S64x1024x3, .f32⟩
  | .hbm, ⟨64, _⟩ => ⟨S64x1024x3, .i1⟩
  | .hbm, ⟨65, _⟩ => ⟨S_, .f32⟩
  | .hbm, ⟨66, _⟩ => ⟨S64x1024x3, .f32⟩
  | .hbm, ⟨67, _⟩ => ⟨S64x1024x3, .f32⟩
  | .hbm, ⟨68, _⟩ => ⟨S64x1024x3, .f32⟩
  | .hbm, ⟨69, _⟩ => ⟨S_, .f32⟩
  | .hbm, ⟨70, _⟩ => ⟨S64x1024x3, .f32⟩
  | .hbm, ⟨71, _⟩ => ⟨S64x1024x3, .f32⟩
  | .hbm, ⟨72, _⟩ => ⟨S64x1024x3, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S4x16, .f32⟩
  | .hbm, ⟨80, _⟩ => ⟨S4x16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S4x16x3, .f32⟩
  | .hbm, ⟨85, _⟩ => ⟨S_, .f32⟩
  | .hbm, ⟨86, _⟩ => ⟨S4x16x3, .f32⟩
  | .hbm, ⟨87, _⟩ => ⟨S4x16x3, .f32⟩
  | .hbm, ⟨88, _⟩ => ⟨S_, .f32⟩
  | .hbm, ⟨89, _⟩ => ⟨S4x16x3, .f32⟩
  | .hbm, ⟨90, _⟩ => ⟨S_, .f32⟩
  | .hbm, ⟨91, _⟩ => ⟨S4x16x3, .f32⟩
  | .hbm, ⟨92, _⟩ => ⟨S4x16x3, .f32⟩
  | .hbm, ⟨93, _⟩ => ⟨S4x16x3, .f32⟩
  | .hbm, ⟨94, _⟩ => ⟨S4x16x3, .f32⟩
  | .hbm, ⟨95, _⟩ => ⟨S_, .f32⟩
  | .hbm, ⟨96, _⟩ => ⟨S4x16x3, .f32⟩
  | .hbm, ⟨97, _⟩ => ⟨S4x16x3, .i1⟩
  | .hbm, ⟨98, _⟩ => ⟨S_, .f32⟩
  | .hbm, ⟨99, _⟩ => ⟨S4x16x3, .f32⟩
  | .hbm, ⟨100, _⟩ => ⟨S4x16x3, .f32⟩
  | .hbm, ⟨101, _⟩ => ⟨S4x16x3, .f32⟩
  | .hbm, ⟨102, _⟩ => ⟨S_, .f32⟩
  | .hbm, ⟨103, _⟩ => ⟨S4x16x3, .f32⟩
  | .hbm, ⟨104, _⟩ => ⟨S4x16x3, .f32⟩
  | .hbm, ⟨105, _⟩ => ⟨S4x16x3, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1x1, .f32⟩
  | .hbm, ⟨113, _⟩ => ⟨S1x1, .f32⟩
  | _, _ => ⟨S4x16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_c : Ref sig .tc := ⟨.hbm, 21, rfl⟩
abbrev main_call1_v1_0 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_18 : Ref sig .tc := ⟨.hbm, 95, rfl⟩
abbrev main_v63 : Ref sig .tc := ⟨.hbm, 96, rfl⟩
abbrev main_v64 : Ref sig .tc := ⟨.hbm, 97, rfl⟩
abbrev main_cst_19 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_20 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_21 : Ref sig .tc := ⟨.hbm, 106, rfl⟩
abbrev main_v71 : Ref sig .tc := ⟨.hbm, 107, rfl⟩
abbrev main_cst_22 : Ref sig .tc := ⟨.hbm, 108, rfl⟩
abbrev main_v72 : Ref sig .tc := ⟨.hbm, 109, rfl⟩
abbrev main_cst_23 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩

abbrev nD : Nat := 1
abbrev τ : Topo := Topo.v7x

variable {F : FTy → Type} [FloatOps F]
-- ==== Proof.Pair.lean ====
/-
  What the kernel computes for one pair of point sets, and what one grid point leaves in the two result blocks.

  The body works through eight pairs, one after the other, with the same operations on each. `pairTerm` and `pairTermC`
  name what it adds for one pair to the two sums, in terms of the pair's rows of the input blocks; `outB` and `outA` say
  that a grid point leaves the old contents of each result block plus the sum over its eight pairs (at the first grid
  point the old contents are zero).
-/
module

public import proofs.«01_k».proof.Proof.Gen.KernelIdeal.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-! ## The operations on one pair -/

/-- The column number of every cell of the table of distances. -/
abbrev lanes : IVec S1024x1024 32 := iota .tc S1024x1024 32 [1] iota_S1024x1024_d1_w32

/-- The row number of every cell of the table of distances. -/
abbrev rows : IVec S1024x1024 32 := iota .tc S1024x1024 32 [0] iota_S1024x1024_d0_w32

/-- The difference of every target (row) and every prediction (column), in one coordinate. -/
def diff (t : FVec F S1024x1 .f32) (p : FVec F S1x1024 .f32) : FVec F S1024x1024 .f32 :=
  subf (broadcastTo S1024x1024 t broadcasts_S1024x1_S1024x1024) (broadcastTo S1024x1024 p broadcasts_S1x1024_S1024x1024)

/-- The squared distance of every target (row) to every prediction (column). -/
def dist (pT : FVec F S3x1024 .f32) (t : FVec F S1024x3 .f32) : FVec F S1024x1024 .f32 :=
  let u0 := diff (extractStridedSlice S1024x1 ![0, 0] t slices_S1024x3_o0_0_S1024x1) (extractStridedSlice S1x1024 ![0, 0] pT slices_S3x1024_o0_0_S1x1024)
  let u1 := diff (extractStridedSlice S1024x1 ![0, 1] t slices_S1024x3_o0_1_S1024x1) (extractStridedSlice S1x1024 ![1, 0] pT slices_S3x1024_o1_0_S1x1024)
  let u2 := diff (extractStridedSlice S1024x1 ![0, 2] t slices_S1024x3_o0_2_S1024x1) (extractStridedSlice S1x1024 ![2, 0] pT slices_S3x1024_o2_0_S1x1024)
  addf (addf (mulf u0 u0) (mulf u1 u1)) (mulf u2 u2)

/-- The least entry of each row. -/
def minRow (d : FVec F S1024x1024 .f32) : FVec F S1024x1 .f32 :=
  shapeCast S1024x1 (multiReduction .minimumf [1] S1024 d 0x7F800000#32 reduces_S1024x1024_S1024 (.inl rfl) rfl) shapeCasts_S1024_S1024x1

/-- The first column at which each row has its least entry. -/
def argRow (d : FVec F S1024x1024 .f32) : IVec S1024x1 32 :=
  shapeCast S1024x1 (multiReductionI .minsi [1] S1024
    (select (cmpf .oeq d (broadcastTo S1024x1024 (minRow d) broadcasts_S1024x1_S1024x1024)) lanes (broadcast S1024x1024 1024#32))
    2147483647#32 reduces_S1024x1024_S1024 rfl) shapeCasts_S1024_S1024x1

/-- The least entry of each column. -/
def minCol (d : FVec F S1024x1024 .f32) : FVec F S1x1024 .f32 :=
  shapeCast S1x1024 (multiReduction .minimumf [0] S1024 d 0x7F800000#32 reduces_S1024x1024_S1024_2 (.inl rfl) rfl) shapeCasts_S1024_S1x1024

/-- The first row at which each column has its least entry. -/
def argCol (d : FVec F S1024x1024 .f32) : IVec S1x1024 32 :=
  shapeCast S1x1024 (multiReductionI .minsi [0] S1024
    (select (cmpf .oeq d (broadcastTo S1024x1024 (minCol d) broadcasts_S1x1024_S1024x1024)) rows (broadcast S1024x1024 1024#32))
    2147483647#32 reduces_S1024x1024_S1024_2 rfl) shapeCasts_S1024_S1x1024

/-- The row chosen in each column: that of the one tile's least entry where it lies below the running minimum's start,
    which is infinity, else row 0; counted from the tile's first row. -/
def pickCol (d : FVec F S1024x1024 .f32) : IVec S1x1024 32 :=
  let upd := cmpf .olt (minCol d) (broadcast S1x1024 (Scalar.ofBits .f32 0x7F800000#32))
  subi (addi (select upd (argCol d) (broadcast S1x1024 0#32))
    (muli (select upd (broadcast S1x1024 0#32) (broadcast S1x1024 0#32)) (broadcast S1x1024 1024#32))) (broadcast S1x1024 0#32)

/-- 1 where the condition holds, else 0. -/
def oneHot (q : IVec S1024x1024 1) : FVec F S1024x1024 .bf16 :=
  truncf .bf16 (select q (broadcast S1024x1024 (Scalar.ofBits .f32 0x3F800000#32)) (broadcast S1024x1024 (Scalar.ofBits .f32 0x00000000#32))) bitsLt_bf16_f32

/-- The prediction nearest to each target. -/
def nearP (p : FVec F S1024x3 .f32) (d : FVec F S1024x1024 .f32) : FVec F S1024x3 .f32 :=
  matmul dot_S1024x1024_S1024x3_S1024x3_1_0_0_1_n_n none
    (oneHot (cmpi .eq lanes (broadcastTo S1024x1024 (argRow d) broadcasts_S1024x1_S1024x1024)))
    (truncf .bf16 p bitsLt_bf16_f32) (constant S1024x3 .f32 0x00000000#32)

/-- The target nearest to each prediction. -/
def nearT (tT : FVec F S3x1024 .f32) (d : FVec F S1024x1024 .f32) : FVec F S3x1024 .f32 :=
  addf (broadcast S3x1024 (Scalar.ofBits .f32 0x00000000#32))
    (matmul dot_S3x1024_S1024x1024_S3x1024_1_0_0_1_n_n none (truncf .bf16 tT bitsLt_bf16_f32)
      (oneHot (cmpi .eq rows (broadcastTo S1024x1024 (pickCol d) broadcasts_S1x1024_S1024x1024))) (constant S3x1024 .f32 0x00000000#32))

/-- The smooth absolute value, cell by cell. -/
def sl1 {s : Shape} (x : FVec F s .f32) : FVec F s .f32 :=
  select (cmpf .olt (absf x) (broadcast s (Scalar.ofBits .f32 0x3F800000#32)))
    (mulf (mulf (broadcast s (Scalar.ofBits .f32 0x3F000000#32)) x) x)
    (subf (absf x) (broadcast s (Scalar.ofBits .f32 0x3F000000#32)))

/-- The sum of a [1024, 3] array. -/
def sumR (x : FVec F S1024x3 .f32) : FVec F S1x1 .f32 :=
  broadcast S1x1 (extractAt ![0, 0, 0] (shapeCast S1x1x1 (multiReduction .add [1, 2] S1
    (shapeCast S1x1024x3 x shapeCasts_S1024x3_S1x1024x3) 0x00000000#32 reduces_S1x1024x3_S1 (.inl rfl) rfl) shapeCasts_S1_S1x1x1) inpos_S1x1x1_p0_0_0)

/-- The sum of a [3, 1024] array. -/
def sumC (x : FVec F S3x1024 .f32) : FVec F S1x1 .f32 :=
  broadcast S1x1 (extractAt ![0, 0, 0] (shapeCast S1x1x1 (multiReduction .add [1, 2] S1
    (shapeCast S1x3x1024 x shapeCasts_S3x1024_S1x3x1024) 0x00000000#32 reduces_S1x3x1024_S1 (.inl rfl) rfl) shapeCasts_S1_S1x1x1) inpos_S1x1x1_p0_0_0)

/-- The sum of a [3, 1] array. -/
def sumM (x : FVec F S3x1 .f32) : FVec F S1x1 .f32 :=
  broadcast S1x1 (extractAt ![0, 0, 0] (shapeCast S1x1x1 (multiReduction .add [1, 2] S1
    (shapeCast S1x3x1 x shapeCasts_S3x1_S1x3x1) 0x00000000#32 reduces_S1x3x1_S1 (.inl rfl) rfl) shapeCasts_S1_S1x1x1) inpos_S1x1x1_p0_0_0)

/-- The mean point of a point set stored coordinate by coordinate. -/
def meanC (x : FVec F S3x1024 .f32) : FVec F S3x1 .f32 :=
  divf (shapeCast S3x1 (multiReduction .add [1] S3 x 0x00000000#32 reduces_S3x1024_S3 (.inl rfl) rfl) shapeCasts_S3_S3x1)
    (broadcast S3x1 (Scalar.ofBits .f32 0x44800000#32))

/-- What one pair adds to the first sum: its weighted loss over 4. -/
def pairTerm (x0 : Vec F S1x3x1024 .f32) (x1 x2 : Vec F S1x1024x3 .f32) (x3 : Vec F S1x3x1024 .f32) (x4 : Vec F S1x1x1 .f32) :
    FVec F S1x1 .f32 :=
  let pT : FVec F S3x1024 .f32 := shapeCast S3x1024 x0 shapeCasts_S1x3x1024_S3x1024
  let p : FVec F S1024x3 .f32 := shapeCast S1024x3 x1 shapeCasts_S1x1024x3_S1024x3
  let t : FVec F S1024x3 .f32 := shapeCast S1024x3 x2 shapeCasts_S1x1024x3_S1024x3
  let tT : FVec F S3x1024 .f32 := shapeCast S3x1024 x3 shapeCasts_S1x3x1024_S3x1024
  divf (mulf (shapeCast S1x1 x4 shapeCasts_S1x1x1_S1x1)
      (addf (divf (sumC (sl1 (subf pT (nearT tT (dist pT t))))) (broadcast S1x1 (Scalar.ofBits .f32 0x45400000#32)))
        (divf (addf (broadcast S1x1 (Scalar.ofBits .f32 0x00000000#32)) (sumR (sl1 (subf t (nearP p (dist pT t))))))
          (broadcast S1x1 (Scalar.ofBits .f32 0x45400000#32)))))
    (broadcast S1x1 (Scalar.ofBits .f32 0x40800000#32))

/-- What one pair adds to the second sum: the loss of its mean points over 12. -/
def pairTermC (x0 x3 : Vec F S1x3x1024 .f32) : FVec F S1x1 .f32 :=
  divf (sumM (sl1 (subf (meanC (shapeCast S3x1024 x0 shapeCasts_S1x3x1024_S3x1024))
      (meanC (shapeCast S3x1024 x3 shapeCasts_S1x3x1024_S3x1024)))))
    (broadcast S1x1 (Scalar.ofBits .f32 0x41400000#32))

/-! ## The eight pairs of a grid point -/

/-- Eight terms added one after the other to zero. -/
def acc8 (f : Fin 8 → FVec F S1x1 .f32) : FVec F S1x1 .f32 :=
  addf (addf (addf (addf (addf (addf (addf (addf (broadcast S1x1 (Scalar.ofBits .f32 0x00000000#32)) (f 0)) (f 1)) (f 2)) (f 3)) (f 4)) (f 5)) (f 6)) (f 7)

theorem inbC (k : Fin 8) (a : Fin 3) : (![(k : Nat), 0, 0] : Fin 3 → Nat) a + S1x3x1024.size a ≤ S8x3x1024.size a := by
  revert k a; decide

theorem inbR (k : Fin 8) (a : Fin 3) : (![(k : Nat), 0, 0] : Fin 3 → Nat) a + S1x1024x3.size a ≤ S8x1024x3.size a := by
  revert k a; decide

theorem inbW (k : Fin 8) (a : Fin 3) : (![(k : Nat), 0, 0] : Fin 3 → Nat) a + S1x1x1.size a ≤ S8x1x1.size a := by
  revert k a; decide

/-- Row `k` of a block of eight point sets stored coordinate by coordinate. -/
abbrev rowC (x : Vec F S8x3x1024 .f32) (k : Fin 8) : Vec F S1x3x1024 .f32 :=
  View.ld x (Rect.unit (s := S8x3x1024) ![(k : Nat), 0, 0] S1x3x1024.size (inbC k))

/-- Row `k` of a block of eight point sets stored point by point. -/
abbrev rowR (x : Vec F S8x1024x3 .f32) (k : Fin 8) : Vec F S1x1024x3 .f32 :=
  View.ld x (Rect.unit (s := S8x1024x3) ![(k : Nat), 0, 0] S1x1024x3.size (inbR k))

/-- Row `k` of a block of eight weights. -/
abbrev rowW (x : Vec F S8x1x1 .f32) (k : Fin 8) : Vec F S1x1x1 .f32 :=
  View.ld x (Rect.unit (s := S8x1x1) ![(k : Nat), 0, 0] S1x1x1.size (inbW k))

/-- What a grid point adds to the first sum. -/
def step (x0 : Vec F S8x3x1024 .f32) (x1 x2 : Vec F S8x1024x3 .f32) (x3 : Vec F S8x3x1024 .f32) (x4 : Vec F S8x1x1 .f32) :
    FVec F S1x1 .f32 :=
  acc8 fun k => pairTerm (rowC x0 k) (rowR x1 k) (rowR x2 k) (rowC x3 k) (rowW x4 k)

/-- What a grid point adds to the second sum. -/
def stepC (x0 x3 : Vec F S8x3x1024 .f32) : FVec F S1x1 .f32 :=
  acc8 fun k => pairTermC (rowC x0 k) (rowC x3 k)

/-! ## What a grid point leaves -/

theorem hz : (![0, 0] : Fin 2 → Nat) = fun _ => 0 := funext fun a => by fin_cases a <;> rfl

section
variable (c : Dev nD) (i : grid0.Coords) (a1 : Memref sig .tc .vmem S8x3x1024 .f32) (h1 : a1.IsWhole)
    (a2 : Memref sig .tc .vmem S8x1024x3 .f32) (h2 : a2.IsWhole) (a3 : Memref sig .tc .vmem S8x1024x3 .f32) (h3 : a3.IsWhole)
    (a4 : Memref sig .tc .vmem S8x3x1024 .f32) (h4 : a4.IsWhole) (a5 : Memref sig .tc .vmem S8x1x1 .f32) (h5 : a5.IsWhole)
    (a6 : Memref sig .tc .vmem S1x1 .f32) (h6 : a6.IsWhole) (a7 : Memref sig .tc .vmem S1x1 .f32) (h7 : a7.IsWhole)
    (x0 : Vec F S8x3x1024 .f32) (x1 x2 : Vec F S8x1024x3 .f32) (x3 : Vec F S8x3x1024 .f32)
    (x4 : Vec F S8x1x1 .f32) (xo5 xo6 : Vec F S1x1 .f32)

/-- After the first point each result block holds its old contents plus the point's contribution. -/
theorem outB (hc : ¬cond0_0 i) :
    out0_B_5 c i a1 h1 a2 h2 a3 h3 a4 h4 a5 h5 a6 h6 a7 h7 hc x0 x1 x2 x3 x4 xo5 xo6 = addf xo5 (step x0 x1 x2 x3 x4)
      ∧ out0_B_6 c i a1 h1 a2 h2 a3 h3 a4 h4 a5 h5 a6 h6 a7 h7 hc x0 x1 x2 x3 x4 xo5 xo6 = addf xo6 (stepC x0 x3) := by
  unfold out0_B_5 out0_B_6
  rw [View.read_writes_eq_canon _ _ _ (cover0_B_5 c i a1 h1 a2 h2 a3 h3 a4 h4 a5 h5 a6 h6 a7 h7 hc x0 x1 x2 x3 x4 xo5 xo6),
    View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz, View.canon_unit_zero hz]
  simp only [View.readAt_eq_ld, h1.read_unread, h2.read_unread, h3.read_unread, h4.read_unread, h5.read_unread, h6.read_unread,
    h7.read_unread, View.ld_unit_zero (S := S1x1) hz]
  exact ⟨congrArg (addf · (step x0 x1 x2 x3 x4)) (shapeCast_self xo5 shapeCasts_S1x1_S1x1),
    congrArg (addf · (stepC x0 x3)) (shapeCast_self xo6 shapeCasts_S1x1_S1x1)⟩

/-- The first point starts both result blocks at zero. -/
theorem outA (hc : cond0_0 i) :
    out0_A_5 c i a1 h1 a2 h2 a3 h3 a4 h4 a5 h5 a6 h6 a7 h7 hc x0 x1 x2 x3 x4 = addf (constant S1x1 .f32 0x00000000#32) (step x0 x1 x2 x3 x4)
      ∧ out0_A_6 c i a1 h1 a2 h2 a3 h3 a4 h4 a5 h5 a6 h6 a7 h7 hc x0 x1 x2 x3 x4 = addf (constant S1x1 .f32 0x00000000#32) (stepC x0 x3) := by
  unfold out0_A_5 out0_A_6
  rw [View.read_writes_eq_canon _ _ _ (cover0_A_5 c i a1 h1 a2 h2 a3 h3 a4 h4 a5 h5 a6 h6 a7 h7 hc x0 x1 x2 x3 x4),
    View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero hz, View.canon_cons_unit_zero hz]
  simp only [View.readAt_eq_ld, h1.read_unread, h2.read_unread, h3.read_unread, h4.read_unread, h5.read_unread, h6.read_unread,
    h7.read_unread, View.ld_unit_zero (S := S1x1) hz, View.readCov_unit_zero (S := S1x1) _ hz]
  exact ⟨congrArg (addf · (step x0 x1 x2 x3 x4)) (shapeCast_self _ shapeCasts_S1x1_S1x1),
    congrArg (addf · (stepC x0 x3)) (shapeCast_self _ shapeCasts_S1x1_S1x1)⟩

end

end Cert.KernelIdeal.Value
end
-- ==== Proof.Grid.lean ====
/-
  The kernel's run as two sums over the grid.

  The two result blocks never move, so what the last grid point leaves in them is what the result arrays end holding:
  zero plus the contributions of the eight grid points, in order (`run`). Each input block is eight consecutive rows of
  its array, and each array is an argument reshaped, with the last two axes exchanged in two of them (`rows_eq`).
-/
module

public import proofs.«01_k».proof.Proof.Pair
public import Idealize.ShloMosaic.Lib.Claim
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What grid point `t` adds to the first sum. -/
abbrev at5 (c : Dev nD) (t : Fin cfg0.N) : FVec F S1x1 .f32 :=
  step (iblk m c 0 t) (iblk m c 1 t) (iblk m c 2 t) (iblk m c 3 t) (iblk m c 4 t)

/-- What grid point `t` adds to the second sum. -/
abbrev at6 (c : Dev nD) (t : Fin cfg0.N) : FVec F S1x1 .f32 := stepC (iblk m c 0 t) (iblk m c 3 t)

/-- A sum over the grid points up to `n`, starting from zero. -/
def upTo (f : Fin cfg0.N → FVec F S1x1 .f32) : (n : ℕ) → n < cfg0.N → FVec F S1x1 .f32
  | 0, h => addf (constant S1x1 .f32 0x00000000#32) (f ⟨0, h⟩)
  | n + 1, h => addf (upTo f n (Nat.lt_of_succ_lt h)) (f ⟨n + 1, h⟩)

/-- The result blocks after grid point `n` hold the two sums over the grid points up to it. -/
theorem outs_eq (c : Dev nD) : ∀ (n : ℕ) (h : n < cfg0.N), outsAt0 m c n h = (upTo (at5 m c) n h, upTo (at6 m c) n h)
  | 0, h => (outsAt0_A m c ⟨0, h⟩ rfl).trans (congrArg₂ Prod.mk (outA ..).1 (outA ..).2)
  | n + 1, h => by
    have hN : cfg0.N = 8 := N_0
    have hB : ¬(⟨n + 1, h⟩ : Fin cfg0.N).val % 8 = 0 := by dsimp only; omega
    have ih := outs_eq c n (Nat.lt_of_succ_lt h)
    refine (outsAt0_B m c ⟨n + 1, h⟩ hB).trans (congrArg₂ Prod.mk ((outB ..).1.trans ?_) ((outB ..).2.trans ?_))
    · exact congrArg (addf · (at5 m c ⟨n + 1, h⟩)) (congrArg Prod.fst ih)
    · exact congrArg (addf · (at6 m c ⟨n + 1, h⟩)) (congrArg Prod.snd ih)

/-- A sum over all grid points, as the contents of a result array. -/
abbrev total (f : Fin cfg0.N → FVec F S1x1 .f32) : FVec F S1x1 .f32 := upTo f 7 (by rw [show cfg0.N = 8 from N_0]; decide)

/-- A [1, 1] array has one index. -/
theorem idx11 (i j : S1x1.Idx) : i = j :=
  funext fun a => Fin.ext (by
    have hi := (i a).isLt
    have hj := (j a).isLt
    have h1 : S1x1.size a = 1 := by fin_cases a <;> rfl
    omega)

/-- The first result array ends holding the sum over all grid points. -/
theorem final5 (c : Dev nD) : (dats m 0 c).arrAt 5 cfg0.N = total (at5 m c) := by
  refine (dats m 0 c).arrAt_eq_of_after_last 5 t0_7 (by decide +kernel) _ fun j => ?_
  blk_simp
  rw [after0_5, outs_eq]
  exact congrArg (total (at5 m c)) (idx11 _ _)

/-- The second result array ends holding the sum over all grid points. -/
theorem final6 (c : Dev nD) : (dats m 0 c).arrAt 6 cfg0.N = total (at6 m c) := by
  refine (dats m 0 c).arrAt_eq_of_after_last 6 t0_7 (by decide +kernel) _ fun j => ?_
  blk_simp
  rw [after0_6, outs_eq]
  exact congrArg (total (at6 m c)) (idx11 _ _)

/-- The index of pair `k` of grid point `t`. -/
abbrev pairIx (t : Fin cfg0.N) (k : Fin 8) : Fin 64 := ⟨8 * t.val + k.val, by have := t.isLt; have : cfg0.N = 8 := N_0; omega⟩

/-- A batch of point sets, numbered from 0 to 63. -/
abbrev sets (x : Vec F S4x16x1024x3 .f32) : Vec F S64x1024x3 .f32 := shapeCast S64x1024x3 x shapeCasts_S4x16x1024x3_S64x1024x3

/-- Grid point `t` reads block `t` of every input. -/
theorem index_eq (t : Fin cfg0.N) : win0_0.index t = ![t.val, 0, 0] ∧ win0_1.index t = ![t.val, 0, 0] ∧ win0_2.index t = ![t.val, 0, 0]
    ∧ win0_3.index t = ![t.val, 0, 0] ∧ win0_4.index t = ![t.val, 0, 0] := by
  rcases fin_N0 t with rfl | rfl | rfl | rfl | rfl | rfl | rfl | rfl <;> decide

/-- The weights as one column of 64. -/
abbrev weights (x : Vec F S4x16 .f32) : Vec F S64x1x1 .f32 := shapeCast S64x1x1 x shapeCasts_S4x16_S64x1x1

/-- Row `k` of the blocks of grid point `t` is pair `8 t + k` of the arguments. -/
theorem rows_eq (c : Dev nD) (t : Fin cfg0.N) (k : Fin 8) (i j : Fin 1) (n : Fin 1024) (d : Fin 3) :
    rowC (iblk m c 0 t) k (ix3 i d n) = sets (m (c.tc.loc main_arg0)) (ix3 (pairIx t k) n d)
    ∧ rowR (iblk m c 1 t) k (ix3 i n d) = sets (m (c.tc.loc main_arg0)) (ix3 (pairIx t k) n d)
    ∧ rowR (iblk m c 2 t) k (ix3 i n d) = sets (m (c.tc.loc main_arg1)) (ix3 (pairIx t k) n d)
    ∧ rowC (iblk m c 3 t) k (ix3 i d n) = sets (m (c.tc.loc main_arg1)) (ix3 (pairIx t k) n d)
    ∧ rowW (iblk m c 4 t) k (ix3 i j j) = weights (m (c.tc.loc main_arg2)) (ix3 (pairIx t k) j j) := by
  obtain ⟨e0, e1, e2, e3, e4⟩ := index_eq t
  unfold rowC rowR rowW iblk
  simp only [View.ld_apply]
  simp only [View.read_apply, cast_eq]
  entry_read
  refine ⟨transpose_apply _ _ _ _ _ fun a => ?_, congrArg (sets _) (funext fun a => Fin.ext ?_), congrArg (sets _) (funext fun a => Fin.ext ?_),
    transpose_apply _ _ _ _ _ fun a => ?_, congrArg (weights _) (funext fun a => Fin.ext ?_)⟩ <;> fin_cases a
  all_goals blk_simp [e0, e1, e2, e3, e4]
  all_goals simp only [Rect.idx_unit_val]
  all_goals first
    | exact (Nat.zero_add _).trans rfl
    | (show t.val * 8 + (k.val + i.val) = 8 * t.val + k.val; omega)
    | (show 8 * t.val + k.val = t.val * 8 + (k.val + i.val); omega)
    | exact (Nat.zero_add _).symm

/-- The run, read: the results at the two sums, the arguments unchanged. -/
theorem run : θ_run defs (onTc (τ := τ) (main (F := F))) ⟨m, fun _ => 0, ρ⟩ fun r => ∀ c : Dev nD,
      r.2.mem ((c : Thread nD τ).loc main_v5_0) = total (at5 m c)
      ∧ r.2.mem ((c : Thread nD τ).loc main_v5_1) = total (at6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2⟩) (run_blocks m ρ)

end Cert.KernelIdeal.Value
end
-- ==== Proof.Spec.lean ====
/-
  The loss both programs compute, on the extended reals, and the facts about it that no program enters.

  `first f` is the first index at which a family of 1024 values is least. The kernel finds it with two minima (the least
  value, then the least index at which it is taken), the reference with one minimum of (value, index) pairs:
  `fold_eq_first` and `foldl_eq_first` say that both are `first`.
-/
module

public import Idealize.ShloMosaic.PureOps.Ideal
public import Idealize.ShloMosaic.PureOps.Ideal.Laws
public import Idealize.ShloMosaic.Lib.SortNet.Extract

@[expose] public section

noncomputable section

namespace Cert.PairLoss

open Idealize.ShloMosaic

/-! ## The loss -/

/-- A point set: 1024 points of three coordinates. -/
abbrev Pts : Type := Fin 1024 → Fin 3 → EReal

/-- The squared distance of prediction `i` to target `j`. -/
def d2 (p t : Pts) (i j : Fin 1024) : EReal := ∑ d, (p i d - t j d) * (p i d - t j d)

/-- `i` is the first index at which `f` is least. -/
def First (f : Fin 1024 → EReal) (i : Fin 1024) : Prop := (∀ j, f i ≤ f j) ∧ ∀ j < i, f i < f j

theorem exists_first (f : Fin 1024 → EReal) : ∃ i, First f i := by
  obtain ⟨k, hk⟩ := Finite.exists_min f
  have hne : ∃ n : ℕ, ∃ h : n < 1024, f ⟨n, h⟩ = f k := ⟨k.val, k.isLt, rfl⟩
  classical
  obtain ⟨h, he⟩ := Nat.find_spec hne
  have hle : ∀ j, f ⟨Nat.find hne, h⟩ ≤ f j := fun j => by rw [he]; exact hk j
  refine ⟨⟨Nat.find hne, h⟩, hle, fun j hj => lt_of_le_of_ne (hle j) fun e => ?_⟩
  exact Nat.find_min hne (Fin.lt_def.mp hj) ⟨j.isLt, by rw [← he, e]⟩

/-- The first index at which `f` is least. -/
def first (f : Fin 1024 → EReal) : Fin 1024 := (exists_first f).choose

theorem first_spec (f : Fin 1024 → EReal) : First f (first f) := (exists_first f).choose_spec

theorem First.unique {f : Fin 1024 → EReal} {i j : Fin 1024} (hi : First f i) (hj : First f j) : i = j :=
  le_antisymm (not_lt.mp fun h => (hi.2 j h).not_ge (hj.1 i)) (not_lt.mp fun h => (hj.2 i h).not_ge (hi.1 j))

/-- One half, as the programs write it. -/
abbrev half : EReal := Ideal.ofBits .f32 0x3F000000#32

/-- The smooth absolute value. -/
def smooth (x : EReal) : EReal := if max x (-x) < 1 then half * x * x else max x (-x) - half

/-- The mean smooth distance of the predictions to their nearest targets plus that of the targets to their nearest
    predictions. -/
def pairLoss (p t : Pts) : EReal :=
  Ideal.div (∑ i, ∑ d, smooth (p i d - t (first fun j => d2 p t i j) d)) (Ideal.ofBits .f32 0x45400000#32)
    + Ideal.div (∑ j, ∑ d, smooth (t j d - p (first fun i => d2 p t i j) d)) (Ideal.ofBits .f32 0x45400000#32)

/-- The mean of a point set in one coordinate. -/
def mean (p : Pts) (d : Fin 3) : EReal := Ideal.div (∑ i, p i d) (Ideal.ofBits .f32 0x44800000#32)

/-- The smooth distance of the mean points. -/
def meanLoss (p t : Pts) : EReal := ∑ d, smooth (mean p d - mean t d)

/-- The first result: the weighted sum of the pairs' losses over 4. -/
def loss (p t : Fin 64 → Pts) (w : Fin 64 → EReal) : EReal :=
  Ideal.div (∑ g, pairLoss (p g) (t g) * w g) (Ideal.ofBits .f32 0x40800000#32)

/-- The second result: the sum of the mean points' losses over 12. -/
def lossc (p t : Fin 64 → Pts) : EReal := Ideal.div (∑ g, meanLoss (p g) (t g)) (Ideal.ofBits .f32 0x41400000#32)

/-! ## Division by a positive constant goes through a sum -/

theorem add_mul_coe (a b : EReal) {c : ℝ} (hc : 0 ≤ c) : (a + b) * (c : EReal) = a * c + b * c :=
  EReal.right_distrib_of_nonneg_of_ne_top (EReal.coe_nonneg.mpr hc) (EReal.coe_ne_top c) a b

theorem sum_div {n : ℕ} (f : Fin n → EReal) {y : ℝ} (hy : 0 < y) : ∑ g, Ideal.div (f g) (y : EReal) = Ideal.div (∑ g, f g) (y : EReal) := by
  simp only [Ideal.div_coe hy.ne']
  have h : ∀ s : Finset (Fin n), ∑ g ∈ s, f g * ((1 / y : ℝ) : EReal) = (∑ g ∈ s, f g) * ((1 / y : ℝ) : EReal) := fun s => by
    classical
    induction s using Finset.induction_on with
    | empty => simp
    | insert a s ha ih => rw [Finset.sum_insert ha, Finset.sum_insert ha, ih, add_mul_coe _ _ (by positivity)]
  exact h Finset.univ

/-- A sum over a [m, n] array's cells, row by row. -/
theorem sum_pairs {m n : ℕ} (f : Fin (m * n) → EReal) :
    ∑ a : Fin m, ∑ b : Fin n, f ⟨n * a.val + b.val, by have := (finProdFinEquiv (a, b)).isLt; simpa [add_comm] using this⟩ = ∑ g, f g := by
  rw [← Equiv.sum_comp finProdFinEquiv, Fintype.sum_prod_type]
  refine Finset.sum_congr rfl fun a _ => Finset.sum_congr rfl fun b _ => congrArg f (Fin.ext ?_)
  simp [add_comm]

theorem ofBits_4 : Ideal.ofBits .f32 0x40800000#32 = ((4 : ℝ) : EReal) := by
  simp [Ideal.ofBits, Ideal.ieee]; rw [← EReal.coe_mul]; norm_num

theorem ofBits_12 : Ideal.ofBits .f32 0x41400000#32 = ((12 : ℝ) : EReal) := by
  simp [Ideal.ofBits, Ideal.ieee]; rw [← EReal.coe_mul]; norm_num

theorem ofBits_top : Ideal.ofBits .f32 0x7F800000#32 = ⊤ := by
  simp [Ideal.ofBits, Ideal.ieee]

/-- A difference's square does not depend on its order, the infinite values included. -/
theorem sq_sub_comm (a b : EReal) : (a - b) * (a - b) = (b - a) * (b - a) := by
  induction a <;> induction b <;> first
    | rfl
    | (rw [← EReal.coe_sub, ← EReal.coe_sub, ← EReal.coe_mul, ← EReal.coe_mul]; congr 1; ring)
    | simp

/-! ## The first least index by two minima -/

/-- The least value, started from infinity, is that at the first least index. -/
theorem fold_min_eq (f : Fin 1024 → EReal) : Finset.univ.fold min ⊤ f = f (first f) :=
  le_antisymm (Finset.fold_min_le _ |>.mpr (Or.inr ⟨first f, Finset.mem_univ _, le_rfl⟩))
    (Finset.le_fold_min _ |>.mpr ⟨le_top, fun j _ => (first_spec f).1 j⟩)

theorem toInt_ofNat (k : ℕ) (h : k ≤ 1024) : (BitVec.ofNat 32 k).toInt = k := by
  rw [BitVec.toInt_eq_toNat_of_lt] <;> simp <;> omega

theorem ofNat_inj {i j : Fin 1024} (h : BitVec.ofNat 32 i.val = BitVec.ofNat 32 j.val) : i = j :=
  Fin.ext (by have := congrArg BitVec.toInt h; rw [toInt_ofNat _ (by omega), toInt_ofNat _ (by omega)] at this; omega)

/-- The least index at which the least value is taken is the first least index. -/
theorem fold_eq_first (f : Fin 1024 → EReal) (v : EReal) (hv : v = f (first f)) :
    Finset.univ.fold IntOp.minsi 2147483647#32 (fun x : Fin 1024 => if f x = v then BitVec.ofNat 32 x.val else 1024#32)
      = BitVec.ofNat 32 (first f).val := by
  subst hv
  apply BitVec.eq_of_toInt_eq
  rw [← Finset.fold_hom (op' := min) (m := BitVec.toInt) (fun a b => (SortNet.toInt_minsi a b).symm ▸ rfl), toInt_ofNat _ (first f).isLt.le]
  refine le_antisymm (Finset.fold_min_le _ |>.mpr (Or.inr ⟨first f, Finset.mem_univ _, ?_⟩))
    (Finset.le_fold_min _ |>.mpr ⟨?_, fun j _ => ?_⟩)
  · rw [if_pos rfl, toInt_ofNat _ (first f).isLt.le]
  · have := (first f).isLt; rw [show (2147483647#32).toInt = 2147483647 from by decide]; omega
  · split
    · rename_i h
      rw [toInt_ofNat _ j.isLt.le]
      have : first f ≤ j := not_lt.mp fun hlt => ((first_spec f).2 j hlt).ne h.symm
      have := Fin.le_def.mp this
      omega
    · rw [show (1024#32).toInt = 1024 from by decide]; have := (first f).isLt; omega

/-- If every value is infinite the first least index is 0. -/
theorem first_top (f : Fin 1024 → EReal) (h : f (first f) = ⊤) : first f = 0 :=
  (first_spec f).unique ⟨fun j => by
    have := (first_spec f).1 j
    rw [h, top_le_iff] at this; rw [this]; exact le_top, fun j hj => absurd hj (Fin.not_lt_zero j)⟩

/-! ## The first least index by one minimum of pairs -/

/-- One pair is no later than another in the order by value, then by index. -/
def Le (a b : EReal × BitVec 32) : Prop := a.1 < b.1 ∨ a.1 = b.1 ∧ a.2.toInt ≤ b.2.toInt

theorem Le.trans {a b c : EReal × BitVec 32} (h : Le a b) (h' : Le b c) : Le a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- A fold that at each step keeps the earlier of two pairs ends at one of them, no later than any. -/
theorem foldl_spec (op : EReal × BitVec 32 → EReal × BitVec 32 → EReal × BitVec 32)
    (hop : ∀ a b, (op a b = a ∨ op a b = b) ∧ Le (op a b) a ∧ Le (op a b) b) (l : List (EReal × BitVec 32)) (z : EReal × BitVec 32) :
    (l.foldl op z = z ∨ l.foldl op z ∈ l) ∧ Le (l.foldl op z) z ∧ ∀ x ∈ l, Le (l.foldl op z) x := by
  induction l generalizing z with
  | nil => exact ⟨Or.inl rfl, Or.inr ⟨rfl, le_rfl⟩, by simp⟩
  | cons b l ih =>
    obtain ⟨hm, hz, hl⟩ := ih (op z b)
    obtain ⟨ho, hza, hzb⟩ := hop z b
    rw [List.foldl_cons]
    refine ⟨?_, hz.trans hza, fun x hx => ?_⟩
    · rcases hm with hm | hm
      · rcases ho with ho | ho
        · exact Or.inl (hm.trans ho)
        · exact Or.inr (by rw [hm, ho]; exact List.mem_cons_self)
      · exact Or.inr (List.mem_cons_of_mem _ hm)
    · rcases List.mem_cons.mp hx with rfl | hx
      · exact hz.trans hzb
      · exact hl x hx

/-- The fold over all (value, index) pairs, started from infinity and 0, ends at the first least index. -/
theorem foldl_eq_first (op : EReal × BitVec 32 → EReal × BitVec 32 → EReal × BitVec 32)
    (hop : ∀ a b, (op a b = a ∨ op a b = b) ∧ Le (op a b) a ∧ Le (op a b) b) (f : Fin 1024 → EReal) (l : List (EReal × BitVec 32))
    (hl : ∀ x, x ∈ l ↔ ∃ k : Fin 1024, x = (f k, BitVec.ofNat 32 k.val)) :
    (l.foldl op (⊤, 0#32)).2 = BitVec.ofNat 32 (first f).val := by
  obtain ⟨hm, -, hle⟩ := foldl_spec op hop l (⊤, 0#32)
  have hi := hle _ ((hl _).mpr ⟨first f, rfl⟩)
  rcases hm with hm | hm
  · rw [hm] at hi ⊢
    have ht : f (first f) = ⊤ := hi.elim (fun h => absurd h not_top_lt) fun h => h.1.symm
    rw [first_top f ht]; rfl
  · obtain ⟨k, hk⟩ := (hl _).mp hm
    rw [hk] at hi hle ⊢
    have hF : First f k := ⟨fun j => ?_, fun j hj => ?_⟩
    · rw [(first_spec f).unique hF]
    · exact (hle _ ((hl _).mpr ⟨j, rfl⟩)).elim le_of_lt fun h => le_of_eq h.1
    · refine (hle _ ((hl _).mpr ⟨j, rfl⟩)).elim id fun h => absurd h.2 ?_
      dsimp only
      rw [toInt_ofNat _ k.isLt.le, toInt_ofNat _ j.isLt.le]
      have := Fin.lt_def.mp hj
      omega

end Cert.PairLoss
end
-- ==== Proof.KernelValue.lean ====
/-
  The kernel's two results over the extended reals, as the loss of `Spec`.

  The least entry of a row or a column of the table of distances and the first place at which it stands are found by two
  minima (`argRow_at`, `pickCol_at`); a product with the table that is 1 at the chosen places and 0 elsewhere reads the
  chosen points (`nearP_at`, `nearT_at`). So one pair adds its loss (`pairTerm_at`, `pairTermC_at`), and the eight grid
  points of eight pairs each add up to the sum over the 64 pairs (`first_result`, `second_result`).
-/
module

public import proofs.«01_k».proof.Proof.Grid
public import proofs.«01_k».proof.Proof.Spec

@[expose] public section

noncomputable section

namespace Cert.KernelIdeal.Value

open Cert.KernelIdeal Cert.KernelIdeal.Gen Idealize.ShloMosaic Idealize.ShloMosaic.TcCoe Idealize.SL.Sem
open Cert.PairLoss (Pts d2 first first_spec half smooth)

/-! ## The nearest points -/

/-- Row `r` and column `c` of the table hold the squared distance of prediction `c` to target `r`. -/
theorem dist_at {p t : Pts} {pT : FVec Ideal S3x1024 .f32} {tv : FVec Ideal S1024x3 .f32} (hp : ∀ n d, pT (ix2 d n) = p n d)
    (ht : ∀ n d, tv (ix2 n d) = t n d) (r c : Fin 1024) : dist pT tv (ix2 r c) = d2 p t c r := by
  pointwise [dist, diff]
  rw [d2, Fin.sum_univ_three, PairLoss.sq_sub_comm (p c 0), PairLoss.sq_sub_comm (p c 1), PairLoss.sq_sub_comm (p c 2)]
  simp only [← hp, ← ht]

variable (d : FVec Ideal S1024x1024 .f32) (r : Fin 1024)

/-- The least entry of a row stands at its first least place. -/
theorem minRow_at : minRow d (ix2 r 0) = d (ix2 r (first fun x => d (ix2 r x))) := by
  pointwise [minRow]
  rw [PairLoss.ofBits_top]
  exact PairLoss.fold_min_eq fun x => d (ix2 r x)

/-- The least entry of a column stands at its first least place. -/
theorem minCol_at : minCol d (ix2 0 r) = d (ix2 (first fun x => d (ix2 x r)) r) := by
  pointwise [minCol]
  rw [PairLoss.ofBits_top]
  exact PairLoss.fold_min_eq fun x => d (ix2 x r)

/-- The place found in a row is the first least one. -/
theorem argRow_at : argRow d (ix2 r 0) = BitVec.ofNat 32 (first fun x => d (ix2 r x)).val := by
  pointwise [argRow]
  exact PairLoss.fold_eq_first (fun x => d (ix2 r x)) _ (minRow_at d r)

/-- The place found in a column is the first least one. -/
theorem argCol_at : argCol d (ix2 0 r) = BitVec.ofNat 32 (first fun x => d (ix2 x r)).val := by
  pointwise [argCol]
  exact PairLoss.fold_eq_first (fun x => d (ix2 x r)) _ (minCol_at d r)

/-- Where a column's least entry is infinite no row is chosen by comparison, and row 0 is its first least entry. -/
theorem pickCol_at : pickCol d (ix2 0 r) = BitVec.ofNat 32 (first fun x => d (ix2 x r)).val := by
  pointwise [pickCol]
  rw [PairLoss.ofBits_top, argCol_at, minCol_at]
  by_cases h : d (ix2 (first fun x => d (ix2 x r)) r) < ⊤
  · simp [h, IntOp.subi, IntOp.addi, IntOp.muli]
  · have h0 : (first fun x => d (ix2 x r)) = 0 := PairLoss.first_top _ (not_lt_top_iff.mp h)
    rw [if_neg h, if_neg h, h0]
    rfl

/-- A sum in which one term is kept and every other is zero. -/
theorem pick_sum (k : Fin 1024) (f : Fin 1024 → EReal) :
    ∑ x : Fin 1024, Scalar.select (IntOp.cmpi .eq (BitVec.ofNat 32 x.val) (BitVec.ofNat 32 k.val)) (f x) 0 = f k := by
  rw [Finset.sum_eq_single k]
  · simp [IntOp.cmpi, Scalar.select]
  · intro x _ hx
    have : BitVec.ofNat 32 x.val ≠ BitVec.ofNat 32 k.val := fun h => hx (PairLoss.ofNat_inj h)
    simp [IntOp.cmpi, Scalar.select, beq_eq_false_iff_ne.mpr this]
  · exact fun h => absurd (Finset.mem_univ k) h

/-- Row `r` of the product holds the prediction at the first least place of the table's row `r`. -/
theorem nearP_at (p : FVec Ideal S1024x3 .f32) (k : Fin 3) : nearP p d (ix2 r k) = p (ix2 (first fun x => d (ix2 r x)) k) := by
  pointwise [nearP, oneHot]
  rw [argRow_at]
  exact pick_sum _ fun x => p (ix2 x k)

/-- Column `r` of the product holds the target at the first least place of the table's column `r`. -/
theorem nearT_at (tT : FVec Ideal S3x1024 .f32) (k : Fin 3) : nearT tT d (ix2 k r) = tT (ix2 k (first fun x => d (ix2 x r))) := by
  pointwise [nearT, oneHot]
  rw [pickCol_at]
  exact pick_sum _ fun x => tT (ix2 k x)

/-- The smooth absolute value of a cell. -/
theorem sl1_at {s : Shape} (x : FVec Ideal s .f32) (i : s.Idx) : sl1 x i = smooth (x i) := by
  pointwise [sl1]
  rfl

/-- The mean of a point set in one coordinate. -/
theorem meanC_at {p : Pts} {x : FVec Ideal S3x1024 .f32} (h : ∀ n d, x (ix2 d n) = p n d) (k : Fin 3) :
    meanC x (ix2 k 0) = PairLoss.mean p k := by
  pointwise [meanC]
  simp only [h]
  rfl

/-! ## The two sums -/

/-- What one pair adds to the first sum. -/
theorem pairTerm_at {p t : Pts} {w : EReal} {x0 : Vec Ideal S1x3x1024 .f32} {x1 x2 : Vec Ideal S1x1024x3 .f32} {x3 : Vec Ideal S1x3x1024 .f32}
    {x4 : Vec Ideal S1x1x1 .f32} (h0 : ∀ n d, x0 (ix3 0 d n) = p n d) (h1 : ∀ n d, x1 (ix3 0 n d) = p n d) (h2 : ∀ n d, x2 (ix3 0 n d) = t n d)
    (h3 : ∀ n d, x3 (ix3 0 d n) = t n d) (h4 : x4 (ix3 0 0 0) = w) :
    pairTerm x0 x1 x2 x3 x4 (ix2 0 0) = Ideal.div (PairLoss.pairLoss p t * w) (Ideal.ofBits .f32 0x40800000#32) := by
  have g0 : ∀ n d, shapeCast S3x1024 x0 shapeCasts_S1x3x1024_S3x1024 (ix2 d n) = p n d := fun n d => by pointwise; exact h0 n d
  have g1 : ∀ n d, shapeCast S1024x3 x1 shapeCasts_S1x1024x3_S1024x3 (ix2 n d) = p n d := fun n d => by pointwise; exact h1 n d
  have g2 : ∀ n d, shapeCast S1024x3 x2 shapeCasts_S1x1024x3_S1024x3 (ix2 n d) = t n d := fun n d => by pointwise; exact h2 n d
  have g3 : ∀ n d, shapeCast S3x1024 x3 shapeCasts_S1x3x1024_S3x1024 (ix2 d n) = t n d := fun n d => by pointwise; exact h3 n d
  pointwise [pairTerm, sumR, sumC]
  rw [mul_comm, h4, Finset.sum_comm]
  simp only [sl1_at]
  unfold subf
  simp only [nearT_at, nearP_at, dist_at g0 g2, g0, g1, g2, g3]
  rfl

/-- What one pair adds to the second sum. -/
theorem pairTermC_at {p t : Pts} {x0 x3 : Vec Ideal S1x3x1024 .f32} (h0 : ∀ n d, x0 (ix3 0 d n) = p n d)
    (h3 : ∀ n d, x3 (ix3 0 d n) = t n d) :
    pairTermC x0 x3 (ix2 0 0) = Ideal.div (PairLoss.meanLoss p t) (Ideal.ofBits .f32 0x41400000#32) := by
  have g0 : ∀ n d, shapeCast S3x1024 x0 shapeCasts_S1x3x1024_S3x1024 (ix2 d n) = p n d := fun n d => by pointwise; exact h0 n d
  have g3 : ∀ n d, shapeCast S3x1024 x3 shapeCasts_S1x3x1024_S3x1024 (ix2 d n) = t n d := fun n d => by pointwise; exact h3 n d
  pointwise [pairTermC, sumM]
  simp only [sl1_at, Finset.univ_unique, Finset.sum_singleton]
  unfold subf
  simp only [meanC_at g0, meanC_at g3]
  rfl

/-- Eight terms added to zero one after the other are their sum. -/
theorem acc8_at (f : Fin 8 → FVec Ideal S1x1 .f32) : acc8 f (ix2 0 0) = ∑ k, f k (ix2 0 0) := by
  pointwise [acc8]
  rw [Fin.sum_univ_eight]

/-- The grid points' contributions added one after the other are their sum. -/
theorem total_at (f : Fin cfg0.N → FVec Ideal S1x1 .f32) :
    total f (ix2 0 0) = ∑ t : Fin 8, f ⟨t.val, by have := t.isLt; have : cfg0.N = 8 := N_0; omega⟩ (ix2 0 0) := by
  pointwise [total, upTo]
  rw [Fin.sum_univ_eight]

variable (m : (ℓ : Loc nD τ sig) → Buf (Elt Ideal) ℓ) (c : Dev nD)

/-- The 64 point sets of an argument. -/
abbrev ptsOf (x : Vec Ideal S4x16x1024x3 .f32) : Fin 64 → Pts := fun g n d => sets x (ix3 g n d)

/-- The kernel's first result is the weighted loss. -/
theorem first_result : total (at5 m c) (ix2 0 0) = PairLoss.loss (ptsOf (m (c.tc.loc main_arg0))) (ptsOf (m (c.tc.loc main_arg1)))
    (fun g => weights (m (c.tc.loc main_arg2)) (ix3 g 0 0)) := by
  rw [total_at, PairLoss.loss, PairLoss.ofBits_4, ← PairLoss.sum_div _ (by norm_num), ← PairLoss.sum_pairs (m := 8) (n := 8)]
  refine Finset.sum_congr rfl fun t _ => ?_
  unfold at5 step
  rw [acc8_at]
  refine Finset.sum_congr rfl fun k _ => ?_
  rw [← PairLoss.ofBits_4]
  have h := rows_eq m c ⟨t.val, by have := t.isLt; have : cfg0.N = 8 := N_0; omega⟩ k 0 0
  exact pairTerm_at (fun n d => (h n d).1) (fun n d => (h n d).2.1) (fun n d => (h n d).2.2.1) (fun n d => (h n d).2.2.2.1) (h 0 0).2.2.2.2

/-- The kernel's second result is the loss of the mean points. -/
theorem second_result : total (at6 m c) (ix2 0 0) = PairLoss.lossc (ptsOf (m (c.tc.loc main_arg0))) (ptsOf (m (c.tc.loc main_arg1))) := by
  rw [total_at, PairLoss.lossc, PairLoss.ofBits_12, ← PairLoss.sum_div _ (by norm_num), ← PairLoss.sum_pairs (m := 8) (n := 8)]
  refine Finset.sum_congr rfl fun t _ => ?_
  unfold at6 stepC
  rw [acc8_at]
  refine Finset.sum_congr rfl fun k _ => ?_
  rw [← PairLoss.ofBits_12]
  have h := rows_eq m c ⟨t.val, by have := t.isLt; have : cfg0.N = 8 := N_0; omega⟩ k 0 0
  exact pairTermC_at (fun n d => (h n d).1) (fun n d => (h n d).2.2.2.1)

end Cert.KernelIdeal.Value
end
-- ==== Proof.RefRun.lean ====
/-
  What the reference program computes, as functions of its arguments, and its run.

  The reference's operations are grouped into the pieces of the mathematics they spell: the table of squared distances
  (`dist`), the two first-minimum searches (`argP`, `argT`), the row look-ups (`take`), the smooth absolute value (`sl1`),
  the mean over one pair's coordinates (`meanOf`), and the two results (`loss`, `lossc`). `run` says that the program ends
  with these values in its result arrays and with its arguments unchanged.
-/
module

public import proofs.«01_k».proof.Defs
public import proofs.«01_k».proof.Proof.Gen.ReferenceIdeal
public import Idealize.ShloMosaic.Lib.Claim

@[expose] public section

noncomputable section

namespace Cert.ReferenceIdeal.Value

open Idealize.ShloMosaic Idealize.ShloMosaic.TcCoe Idealize.SL.Sem
open Cert.ReferenceIdeal Cert.ReferenceIdeal.Gen

variable {F : FTy → Type} [FloatOps F]

/-- The squared distance of every prediction (second index) to every target (third index), pair by pair. -/
def dist (p t : FVec F S64x1024x3 .f32) : FVec F S64x1024x1024 .f32 :=
  let u : FVec F S64x1024x1024x3 .f32 := subf
    (broadcastInDim S64x1024x1024x3 ![0, 1, 2, 3] bcast_S64x1024x1x3_S64x1024x1024x3_0_1_2_3
      (broadcastInDim S64x1024x1x3 ![0, 1, 3] bcast_S64x1024x3_S64x1024x1x3_0_1_3 p))
    (broadcastInDim S64x1024x1024x3 ![0, 1, 2, 3] bcast_S64x1x1024x3_S64x1024x1024x3_0_1_2_3
      (broadcastInDim S64x1x1024x3 ![0, 2, 3] bcast_S64x1024x3_S64x1x1024x3_0_2_3 t))
  Host.reduceAdd (mulf u u) (constant S_ .f32 0x00000000#32) reducesTo_S64x1024x1024x3_S64x1024x1024_d3 h_S_

/-- For every prediction the first target at the least distance. -/
def argP (d : FVec F S64x1024x1024 .f32) : IVec S64x1024 32 := fun j =>
  (Host.argReduce reducer_argmin_f32_i32 d (iotaInDim S64x1024x1024 32 2) (constant S_ .f32 0x7F800000#32)
    (constantI S_ 32 0#32) reducesTo_S64x1024x1024_S64x1024_d2 h_S_ j).2

/-- For every target the first prediction at the least distance. -/
def argT (d : FVec F S64x1024x1024 .f32) : IVec S64x1024 32 := fun j =>
  (Host.argReduce reducer_argmin_f32_i32 d (iotaInDim S64x1024x1024 32 1) (constant S_ .f32 0x7F800000#32)
    (constantI S_ 32 0#32) reducesTo_S64x1024x1024_S64x1024_d1 h_S_ j).2

/-- Row `k` of each pair, for the row numbers `k`; a negative number counts from the end. -/
def take (x : FVec F S64x1024x3 .f32) (k : IVec S64x1024 32) : FVec F S64x1024x3 .f32 :=
  Host.gather gather_S64x1024x3_S64x1024x1_S64x1024x3_2_1_0_0_1_2_113 x
    (broadcastInDim S64x1024x1 ![0, 1] bcast_S64x1024_S64x1024x1_0_1
      (select (cmpi .slt k (broadcastInDim S64x1024 ![] bcast_S_S64x1024 (constantI S_ 32 0#32)))
        (addi k (broadcastInDim S64x1024 ![] bcast_S_S64x1024 (constantI S_ 32 1024#32))) k))

/-- The smooth absolute value, at every coordinate of a pair. -/
def sl1 (x : FVec F S64x1024x3 .f32) : FVec F S64x1024x3 .f32 :=
  select (cmpf .olt (Host.absf x) (broadcastInDim S64x1024x3 ![] bcast_S_S64x1024x3 (constant S_ .f32 0x3F800000#32)))
    (mulf (mulf (broadcastInDim S64x1024x3 ![] bcast_S_S64x1024x3 (constant S_ .f32 0x3F000000#32)) x) x)
    (subf (Host.absf x) (broadcastInDim S64x1024x3 ![] bcast_S_S64x1024x3 (constant S_ .f32 0x3F000000#32)))

/-- The smooth absolute value, at every coordinate of the means. -/
def sl1c (x : FVec F S4x16x3 .f32) : FVec F S4x16x3 .f32 :=
  select (cmpf .olt (Host.absf x) (broadcastInDim S4x16x3 ![] bcast_S_S4x16x3 (constant S_ .f32 0x3F800000#32)))
    (mulf (mulf (broadcastInDim S4x16x3 ![] bcast_S_S4x16x3 (constant S_ .f32 0x3F000000#32)) x) x)
    (subf (Host.absf x) (broadcastInDim S4x16x3 ![] bcast_S_S4x16x3 (constant S_ .f32 0x3F000000#32)))

/-- The mean of each pair's 3072 coordinates. -/
def meanOf (x : FVec F S64x1024x3 .f32) : FVec F S64 .f32 :=
  Host.divf (Host.reduceAdd x (constant S_ .f32 0x00000000#32) reducesTo_S64x1024x3_S64_d1_2 h_S_)
    (broadcastInDim S64 ![] bcast_S_S64 (constant S_ .f32 0x45400000#32))

/-- The mean point of each of the 4 × 16 point sets. -/
def meanc (x : FVec F S4x16x1024x3 .f32) : FVec F S4x16x3 .f32 :=
  Host.divf (Host.reduceAdd x (constant S_ .f32 0x00000000#32) reducesTo_S4x16x1024x3_S4x16x3_d2 h_S_)
    (broadcastInDim S4x16x3 ![] bcast_S_S4x16x3 (constant S_ .f32 0x44800000#32))

/-- The point sets numbered 0, …, 63. -/
def flat (x : FVec F S4x16x1024x3 .f32) : FVec F S64x1024x3 .f32 := shapeCast S64x1024x3 x shapeCasts_S4x16x1024x3_S64x1024x3

/-- The loss of each pair. -/
def per (p t : FVec F S64x1024x3 .f32) : FVec F S64 .f32 :=
  addf (meanOf (sl1 (subf p (take t (argP (dist p t)))))) (meanOf (sl1 (subf t (take p (argT (dist p t))))))

/-- The first result: the weighted sum of the pair losses over 4. -/
def loss (x y : FVec F S4x16x1024x3 .f32) (w : FVec F S4x16 .f32) : FVec F S1x1 .f32 :=
  shapeCast S1x1 (Host.divf
    (Host.reduceAdd (mulf (shapeCast S4x16 (per (flat x) (flat y)) shapeCasts_S64_S4x16) w) (constant S_ .f32 0x00000000#32)
      reducesTo_S4x16_S_d0_1 h_S_) (constant S_ .f32 0x40800000#32)) shapeCasts_S_S1x1

/-- The second result: the loss of the mean points. -/
def lossc (x y : FVec F S4x16x1024x3 .f32) : FVec F S1x1 .f32 :=
  shapeCast S1x1 (Host.divf
    (Host.reduceAdd (sl1c (subf (meanc x) (meanc y))) (constant S_ .f32 0x00000000#32) reducesTo_S4x16x3_S_d0_1_2 h_S_)
    (constant S_ .f32 0x41400000#32)) shapeCasts_S_S1x1

/-- The reference's run, from any memory with zero semaphores: the results, and the arguments as they were. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem (c.tc.loc main_v74) = loss (m (c.tc.loc main_arg0)) (m (c.tc.loc main_arg1)) (m (c.tc.loc main_arg2))
      ∧ r.2.mem (c.tc.loc main_v75) = lossc (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  hlo_run
  all_goals rfl

end Cert.ReferenceIdeal.Value

end
-- ==== Proof.RefArg.lean ====
/-
  The reference's first-minimum searches and row look-ups, read.

  A search along a row or a column of the table of distances ends at the first least entry (`argP_at`, `argT_at`), and a
  look-up with such a number reads that row (`take_at`).
-/
module

public import proofs.«01_k».proof.Proof.RefRun
public import proofs.«01_k».proof.Proof.Spec
public import Idealize.ShloMosaic.Lib.Pipeline.ValueKit

@[expose] public section

noncomputable section

namespace Cert.ReferenceIdeal.Value

open Cert.ReferenceIdeal Cert.ReferenceIdeal.Gen Idealize.ShloMosaic Idealize.ShloMosaic.TcCoe Idealize.SL.Sem
open Cert.PairLoss (first Le)

/-! ## The first least entries -/

/-- The reduction's body keeps the earlier of two (value, index) pairs. -/
theorem reducer_keeps (a b : EReal × BitVec 32) :
    (reducer_argmin_f32_i32 (F := Ideal) a b = a ∨ reducer_argmin_f32_i32 (F := Ideal) a b = b)
      ∧ Le (reducer_argmin_f32_i32 (F := Ideal) a b) a ∧ Le (reducer_argmin_f32_i32 (F := Ideal) a b) b := by
  obtain ⟨u, i⟩ := a
  obtain ⟨v, j⟩ := b
  have key : reducer_argmin_f32_i32 (F := Ideal) (u, i) (v, j)
      = (if u < v then u else v, if u < v ∨ u = v ∧ i.toInt < j.toInt then i else j) := by
    unfold reducer_argmin_f32_i32
    simp only [Ideal.cmpf_def, Ideal.cmp, IntOp.cmpi, IntOp.ori, IntOp.andi, Scalar.select]
    by_cases h1 : u < v <;> by_cases h2 : u = v <;> by_cases h3 : i.toInt < j.toInt <;> simp [h1, h2, h3, BitVec.slt]
  rw [key]
  by_cases h1 : u < v
  · rw [if_pos h1, if_pos (Or.inl h1)]
    exact ⟨Or.inl rfl, Or.inr ⟨rfl, le_rfl⟩, Or.inl h1⟩
  · rw [if_neg h1]
    by_cases h2 : u = v ∧ i.toInt < j.toInt
    · rw [if_pos (Or.inr h2), ← h2.1]
      exact ⟨Or.inl rfl, Or.inr ⟨rfl, le_rfl⟩, Or.inr ⟨rfl, h2.2.le⟩⟩
    · rw [if_neg (not_or.mpr ⟨h1, h2⟩)]
      refine ⟨Or.inr rfl, ?_, Or.inr ⟨rfl, le_rfl⟩⟩
      rcases lt_or_eq_of_le (not_lt.mp h1) with h | h
      · exact Or.inl h
      · exact Or.inr ⟨h, not_lt.mp fun g => h2 ⟨h.symm, g⟩⟩

/-- A first-minimum search along one axis, where `e k` are the cells it visits for the result's cell `j`. -/
theorem arg_at {s t : Shape} {axes : List (Fin s.rank)} (d : FVec Ideal s .f32) (y : IVec s 32) (h : s.ReducesTo axes t) (j : t.Idx)
    (e : Fin 1024 → s.Idx) (he : ∀ i, h.drop i = j ↔ ∃ k, i = e k) (hy : ∀ k, y (e k) = BitVec.ofNat 32 k.val) :
    (Host.argReduce reducer_argmin_f32_i32 d y (constant S_ .f32 0x7F800000#32) (constantI S_ 32 0#32) h h_S_ j).2
      = BitVec.ofNat 32 (first fun k => d (e k)).val := by
  rw [Ideal.argReduce_eq_reduce2, Host.reduce2_eq_foldl_fiber]
  show (List.foldl _ (Ideal.ofBits .f32 0x7F800000#32, 0#32) _).2 = _
  rw [PairLoss.ofBits_top]
  refine PairLoss.foldl_eq_first _ reducer_keeps _ _ fun x => ?_
  unfold Host.argReduceFiber
  simp only [List.mem_map, List.mem_filter, List.mem_finRange, true_and, decide_eq_true_eq]
  constructor
  · rintro ⟨n, hn, rfl⟩
    obtain ⟨k, hk⟩ := (he _).mp hn
    exact ⟨k, by rw [hk, hy]⟩
  · rintro ⟨k, rfl⟩
    exact ⟨s.rowMajor (e k), (he _).mpr ⟨k, by simp⟩, by simp [hy]⟩

/-- The cells that a search along the last axis visits. -/
theorem drop_last (g : Fin 64) (r : Fin 1024) (i : S64x1024x1024.Idx) :
    reducesTo_S64x1024x1024_S64x1024_d2.drop i = ix2 g r ↔ ∃ k, i = ix3 g r k := by
  constructor
  · refine fun h => ⟨i 2, funext fun a => Fin.ext ?_⟩
    fin_cases a
    · exact (Shape.ReducesTo.drop_apply_val_of_eq reducesTo_S64x1024x1024_S64x1024_d2 i 0 0).symm.trans (congrArg (fun q => (q 0).val) h)
    · exact (Shape.ReducesTo.drop_apply_val_of_eq reducesTo_S64x1024x1024_S64x1024_d2 i 1 1).symm.trans (congrArg (fun q => (q 1).val) h)
    · rfl
  · rintro ⟨k, rfl⟩
    refine funext fun b => Fin.ext ?_
    fin_cases b
    · exact Shape.ReducesTo.drop_apply_val_of_eq reducesTo_S64x1024x1024_S64x1024_d2 _ 0 0
    · exact Shape.ReducesTo.drop_apply_val_of_eq reducesTo_S64x1024x1024_S64x1024_d2 _ 1 1

/-- The cells that a search along the middle axis visits. -/
theorem drop_mid (g : Fin 64) (r : Fin 1024) (i : S64x1024x1024.Idx) :
    reducesTo_S64x1024x1024_S64x1024_d1.drop i = ix2 g r ↔ ∃ k, i = ix3 g k r := by
  constructor
  · refine fun h => ⟨i 1, funext fun a => Fin.ext ?_⟩
    fin_cases a
    · exact (Shape.ReducesTo.drop_apply_val_of_eq reducesTo_S64x1024x1024_S64x1024_d1 i 0 0).symm.trans (congrArg (fun q => (q 0).val) h)
    · rfl
    · exact (Shape.ReducesTo.drop_apply_val_of_eq reducesTo_S64x1024x1024_S64x1024_d1 i 1 2).symm.trans (congrArg (fun q => (q 1).val) h)
  · rintro ⟨k, rfl⟩
    refine funext fun b => Fin.ext ?_
    fin_cases b
    · exact Shape.ReducesTo.drop_apply_val_of_eq reducesTo_S64x1024x1024_S64x1024_d1 _ 0 0
    · exact Shape.ReducesTo.drop_apply_val_of_eq reducesTo_S64x1024x1024_S64x1024_d1 _ 1 2

/-- An index is the pair of its coordinates. -/
theorem ix2_eta (j : S64x1024.Idx) : j = ix2 (j 0) (j 1) := funext fun a => by fin_cases a <;> rfl

/-- The search along the rows of the table, at every cell of the result. -/
theorem argP_eq (d : FVec Ideal S64x1024x1024 .f32) :
    argP d = fun j => BitVec.ofNat 32 (first fun x => d (ix3 (j 0) (j 1) x)).val := by
  have h : argP d = fun j => (Host.argReduce reducer_argmin_f32_i32 d (iotaInDim S64x1024x1024 32 2) (constant S_ .f32 0x7F800000#32)
    (constantI S_ 32 0#32) reducesTo_S64x1024x1024_S64x1024_d2 h_S_ j).2 := by with_unfolding_all rfl
  rw [h]
  exact funext fun j => arg_at d _ _ j (fun x => ix3 (j 0) (j 1) x)
    (fun i => (ix2_eta j).symm ▸ drop_last (j 0) (j 1) i) fun _ => rfl

/-- The search along the columns of the table, at every cell of the result. -/
theorem argT_eq (d : FVec Ideal S64x1024x1024 .f32) :
    argT d = fun j => BitVec.ofNat 32 (first fun x => d (ix3 (j 0) x (j 1))).val := by
  have h : argT d = fun j => (Host.argReduce reducer_argmin_f32_i32 d (iotaInDim S64x1024x1024 32 1) (constant S_ .f32 0x7F800000#32)
    (constantI S_ 32 0#32) reducesTo_S64x1024x1024_S64x1024_d1 h_S_ j).2 := by with_unfolding_all rfl
  rw [h]
  exact funext fun j => arg_at d _ _ j (fun x => ix3 (j 0) x (j 1))
    (fun i => (ix2_eta j).symm ▸ drop_mid (j 0) (j 1) i) fun _ => rfl

/-- For prediction `r` of pair `g` the search ends at the first nearest target. -/
theorem argP_at (d : FVec Ideal S64x1024x1024 .f32) (g : Fin 64) (r : Fin 1024) :
    argP d (ix2 g r) = BitVec.ofNat 32 (first fun x => d (ix3 g r x)).val :=
  congrFun (argP_eq d) (ix2 g r)

/-- For target `r` of pair `g` the search ends at the first nearest prediction. -/
theorem argT_at (d : FVec Ideal S64x1024x1024 .f32) (g : Fin 64) (r : Fin 1024) :
    argT d (ix2 g r) = BitVec.ofNat 32 (first fun x => d (ix3 g x r)).val :=
  congrFun (argT_eq d) (ix2 g r)

/-! ## The row look-up -/

/-- The look-up's axes: pair, row, coordinate. -/
abbrev look : GatherDims S64x1024x3 S64x1024x1 S64x1024x3 := gather_S64x1024x3_S64x1024x1_S64x1024x3_2_1_0_0_1_2_113

/-- A look-up with the row number `n` reads row `n`. -/
theorem take_at (x : FVec Ideal S64x1024x3 .f32) (k : IVec S64x1024 32) (g : Fin 64) (r : Fin 1024) (d : Fin 3) (n : Fin 1024)
    (hk : k (ix2 g r) = BitVec.ofNat 32 n.val) : take x k (ix3 g r d) = x (ix3 g n d) := by
  have hi : ∀ z : S64x1024x1.Idx, z 0 = g → z 1 = r → (broadcastInDim S64x1024x1 ![0, 1] bcast_S64x1024_S64x1024x1_0_1
      (select (cmpi .slt k (broadcastInDim S64x1024 ![] bcast_S_S64x1024 (constantI S_ 32 0#32)))
        (addi k (broadcastInDim S64x1024 ![] bcast_S_S64x1024 (constantI S_ 32 1024#32))) k)) z = BitVec.ofNat 32 n.val := by
    intro z h0 h1
    rw [show z = ix3 g r 0 from funext fun a => by
      fin_cases a
      · exact h0
      · exact h1
      · exact Fin.ext (by have := (z 2).isLt; change (z 2).val < 1 at this; show (z 2).val = 0; omega)]
    pointwise
    rw [hk]
    have hn : ¬(BitVec.ofNat 32 n.val).toInt < (0#32).toInt := by
      rw [PairLoss.toInt_ofNat _ n.isLt.le, show (0#32).toInt = 0 from by decide]; omega
    have hs : (BitVec.ofNat 32 n.val).slt 0#32 = false := by rw [BitVec.slt, decide_eq_false_iff_not]; exact hn
    simp only [IntOp.cmpi, Scalar.select, hs]
    rfl
  unfold take Host.gather
  refine congrArg x (funext fun a => Fin.ext ?_)
  show GatherDims.start _ _ _ a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ look.operandBatchingDims from List.mem_singleton.mpr rfl)]
    rfl
  · rw [GatherDims.batchCoord_eq_zero _ _ _ (show (1 : Fin 3) ∉ look.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ look.startIndexMap from List.mem_singleton.mpr rfl), hi _ rfl rfl, PairLoss.toInt_ofNat _ n.isLt.le]
    show min n.val 1023 = n.val
    omega
  · rw [GatherDims.batchCoord_eq_zero _ _ _ (show (2 : Fin 3) ∉ look.operandBatchingDims by decide)]
    unfold GatherDims.start GatherDims.offCoord
    rw [dif_neg (show (2 : Fin 3) ∉ look.startIndexMap by decide), dif_pos (show (2 : Fin 3) ∈ look.sKept by decide)]
    simp only [Nat.zero_add]
    rfl

end Cert.ReferenceIdeal.Value
end
-- ==== Proof.RefValue.lean ====
/-
  The reference's two results, as the loss of `Spec`: its means and sums are sums over the coordinates.
-/
module

public import proofs.«01_k».proof.Proof.RefArg
public import proofs.«01_k».proof.Proof.Spec
public import Idealize.ShloMosaic.Lib.Pipeline.ValueKit

@[expose] public section

noncomputable section

namespace Cert.ReferenceIdeal.Value

open Cert.ReferenceIdeal Cert.ReferenceIdeal.Gen Idealize.ShloMosaic Idealize.ShloMosaic.TcCoe Idealize.SL.Sem
open Cert.PairLoss (Pts d2 first half smooth)

/-- Cell `r`, `c` of the table holds the squared distance of prediction `r` to target `c`. -/
theorem dist_at (p t : FVec Ideal S64x1024x3 .f32) (g : Fin 64) (r c : Fin 1024) :
    dist p t (ix3 g r c) = d2 (fun n d => p (ix3 g n d)) (fun n d => t (ix3 g n d)) r c := by
  pointwise [dist]
  rfl

/-- The smooth absolute value of a cell. -/
theorem sl1_at (x : FVec Ideal S64x1024x3 .f32) (g : Fin 64) (n : Fin 1024) (d : Fin 3) : sl1 x (ix3 g n d) = smooth (x (ix3 g n d)) := by
  pointwise [sl1]
  rfl

/-- The smooth absolute value of a mean's coordinate. -/
theorem sl1c_at (x : FVec Ideal S4x16x3 .f32) (a : Fin 4) (b : Fin 16) (d : Fin 3) : sl1c x (ix3 a b d) = smooth (x (ix3 a b d)) := by
  pointwise [sl1c]
  rfl

/-! ## The two results -/

/-- The loss of one pair. -/
theorem per_at (p t : FVec Ideal S64x1024x3 .f32) (g : Fin 64) :
    per p t (ix1 g) = PairLoss.pairLoss (fun n d => p (ix3 g n d)) (fun n d => t (ix3 g n d)) := by
  pointwise [per, meanOf]
  simp only [sl1_at]
  unfold subf
  simp only [take_at _ _ g _ _ _ (argP_at _ g _), take_at _ _ g _ _ _ (argT_at _ g _), dist_at]
  rfl

/-- The mean point of a set. -/
theorem meanc_at (x : FVec Ideal S4x16x1024x3 .f32) (a : Fin 4) (b : Fin 16) (d : Fin 3) :
    meanc x (ix3 a b d) = PairLoss.mean (fun n d => flat x (ix3 ⟨16 * a.val + b.val, by omega⟩ n d)) d := by
  have hf : ∀ n d, flat x (ix3 ⟨16 * a.val + b.val, by omega⟩ n d) = x (ix4 a b n d) := fun n d => by
    pointwise [flat]
  simp only [hf]
  pointwise [meanc]
  rfl

/-- The reference's first result is the weighted loss. -/
theorem first_result (x y : FVec Ideal S4x16x1024x3 .f32) (w : FVec Ideal S4x16 .f32) (i : S1x1.Idx) :
    loss x y w i = PairLoss.loss (fun g n d => flat x (ix3 g n d)) (fun g n d => flat y (ix3 g n d))
      (fun g => w (ix2 ⟨g.val / 16, by omega⟩ ⟨g.val % 16, by omega⟩)) := by
  rw [PairLoss.loss, ← PairLoss.sum_pairs (m := 4) (n := 16)]
  pointwise [loss]
  simp only [per_at]
  refine congrArg (Ideal.div · _) (Finset.sum_congr rfl fun a _ => Finset.sum_congr rfl fun b _ => ?_)
  have hg : (⟨a.val * 16 + b.val, by omega⟩ : Fin 64) = ⟨16 * a.val + b.val, by omega⟩ := Fin.ext (by dsimp only; omega)
  have ha : (⟨(16 * a.val + b.val) / 16, by omega⟩ : Fin 4) = a := Fin.ext (by dsimp only; omega)
  have hb : (⟨(16 * a.val + b.val) % 16, by omega⟩ : Fin 16) = b := Fin.ext (by dsimp only; omega)
  rw [hg, ha, hb]

/-- The reference's second result is the loss of the mean points. -/
theorem second_result (x y : FVec Ideal S4x16x1024x3 .f32) (i : S1x1.Idx) :
    lossc x y i = PairLoss.lossc (fun g n d => flat x (ix3 g n d)) (fun g n d => flat y (ix3 g n d)) := by
  rw [PairLoss.lossc, ← PairLoss.sum_pairs (m := 4) (n := 16)]
  pointwise [lossc]
  simp only [sl1c_at]
  unfold subf
  simp only [meanc_at]
  rfl

end Cert.ReferenceIdeal.Value
end
-- ==== Proof.lean ====
/-
  The proof of `Cert.Claim`: the two readings of the kernel and the reference run to their ends with their arguments
  unchanged and no semaphore raised, the kernel's ideal reading is the kernel's own text, and over the extended reals the
  kernel's two results are the reference's.

  `Proof/Spec.lean` states the loss; `Proof/Pair.lean` and `Proof/Grid.lean` read the kernel's run, `Proof/RefRun.lean`
  the reference's; `Proof/KernelValue.lean` and `Proof/RefArg.lean`, `Proof/RefValue.lean` show that both are the loss.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves its arguments unchanged; it has no semaphores. -/
theorem reference_frame : quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- A weight, by the number of its pair. -/
theorem weights_at (w : Vec Ideal Cert.KernelIdeal.S4x16 .f32) (g : Fin 64) :
    Cert.KernelIdeal.Value.weights w (ix3 g 0 0) = w (ix2 ⟨g.val / 16, by omega⟩ ⟨g.val % 16, by omega⟩) := by
  pointwise

/-- Over the extended reals the kernel's two results are the reference's. -/
theorem results_eq : algebraic_KernelIdeal_ReferenceIdeal (hKernelIdeal := Cert.KernelIdeal.Gen.facts)
    (hReferenceIdeal := Cert.ReferenceIdeal.Gen.facts) := by
  intro m g m' g' _ ha
  refine ⟨fun c => Cert.KernelIdeal.Value.total (Cert.KernelIdeal.Value.at5 m c),
    fun c => Cert.KernelIdeal.Value.total (Cert.KernelIdeal.Value.at6 m c), Cert.KernelIdeal.Value.run m g,
    (θ_run _ _ _).mono (fun r h c => ⟨(h c).1.trans ?_, (h c).2.1.trans ?_, (h c).2.2⟩) (Cert.ReferenceIdeal.Value.run m' g')⟩
  · obtain ⟨h0, h1, h2, -⟩ := ha c
    refine funext fun i => ?_
    rw [Cert.KernelIdeal.Value.idx11 i (ix2 0 0), h0, h1, h2]
    refine (Cert.ReferenceIdeal.Value.first_result _ _ _ _).trans (Eq.trans ?_ (Cert.KernelIdeal.Value.first_result m c).symm)
    exact congrArg (PairLoss.loss _ _) (funext fun k => (weights_at _ k).symm)
  · obtain ⟨h0, h1, -, -⟩ := ha c
    refine funext fun i => ?_
    rw [Cert.KernelIdeal.Value.idx11 i (ix2 0 0), h0, h1]
    exact (Cert.ReferenceIdeal.Value.second_result _ _ _).trans (Cert.KernelIdeal.Value.second_result m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_eq⟩

end Cert.Proof

end
